-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x1x2048 : Shape := ⟨4, ![4, 8192, 1, 2048]⟩
abbrev S4x4x2048 : Shape := ⟨3, ![4, 4, 2048]⟩
abbrev S2x4x2048 : Shape := ⟨3, ![2, 4, 2048]⟩
abbrev S_ : Shape := ⟨0, ![]⟩
abbrev S2x4x1x2048 : Shape := ⟨4, ![2, 4, 1, 2048]⟩

abbrev nBuf : Table → Nat
  | .hbm => 2
  | .shared => 1
  | _ => 0

abbrev bufTy : (tb : Table) → Fin (nBuf tb) → BufTy
  | .hbm, ⟨0, _⟩ => ⟨S4x8192x1x2048, .f32⟩
  | .hbm, ⟨1, _⟩ => ⟨S4x4x2048, .f32⟩
  | .shared, ⟨0, _⟩ => ⟨S2x4x2048, .f32⟩
  | _, _ => ⟨S4x8192x1x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 4 → Nat :=
  let arg0 : BitVec 32 := BitVec.ofNat 32 (i 0).val
  let c2_i32 : BitVec 32 := 2#32
  let v0 : BitVec 32 := Scalar.muli arg0 c2_i32
  let c0_i32_0_r0 : BitVec 32 := 0#32
  let c0_i32 : BitVec 32 := 0#32
  let c0_i32_1_r0 : BitVec 32 := 0#32
  ![v0.toNat, 0, 0, 0]
def k0_off2 (i : grid0.Coords) : Fin 3 → Nat :=
  let arg0 : BitVec 32 := BitVec.ofNat 32 (i 0).val
  let c2_i32 : BitVec 32 := 2#32
  let v0 : BitVec 32 := Scalar.muli arg0 c2_i32
  let c0_i32_0_r1 : BitVec 32 := 0#32
  let c0_i32_1_r1 : BitVec 32 := 0#32
  ![v0.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x1x2048 : Shape := ⟨4, ![4, 8192, 1, 2048]⟩
abbrev S4 : Shape := ⟨1, ![4]⟩
abbrev S4x8192x2048 : Shape := ⟨3, ![4, 8192, 2048]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x4x2048 : Shape := ⟨3, ![4, 4, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1x2048, .f32⟩
  | .hbm, ⟨1, _⟩ => ⟨S4, .i32⟩
  | .hbm, ⟨2, _⟩ => ⟨S4x8192x2048, .f32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S1, .i32⟩
  | .hbm, ⟨12, _⟩ => ⟨S_, .i32⟩
  | .hbm, ⟨13, _⟩ => ⟨S4x1, .i32⟩
  | .hbm, ⟨14, _⟩ => ⟨S4x1, .i1⟩
  | .hbm, ⟨15, _⟩ => ⟨S1x1, .i32⟩
  | .hbm, ⟨16, _⟩ => ⟨S4x1, .i32⟩
  | .hbm, ⟨17, _⟩ => ⟨S4x1, .i1⟩
  | .hbm, ⟨18, _⟩ => ⟨S4x1, .i1⟩
  | .hbm, ⟨19, _⟩ => ⟨S_, .i1⟩
  | .hbm, ⟨20, _⟩ => ⟨S4, .i1⟩
  | .hbm, ⟨21, _⟩ => ⟨S4x4x2048, .f32⟩
  | .hbm, ⟨22, _⟩ => ⟨S4x4x2048, .i1⟩
  | .hbm, ⟨23, _⟩ => ⟨S_, .f32⟩
  | .hbm, ⟨24, _⟩ => ⟨S4x4x2048, .f32⟩
  | .hbm, ⟨25, _⟩ => ⟨S4x4x2048, .f32⟩
  | _, _ => ⟨S4x8192x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Head.lean ====
/-
  What the problem computes, as one function of the argument: the first four sequence positions of every batch, with
  the argument's unit axis dropped.
-/
module

public import proofs.«01_k».proof.Proof.Gen.KernelIdeal

@[expose] public section

noncomputable section

namespace Cert.Proof

open Idealize.ShloMosaic
open Cert.KernelIdeal (S4x8192x1x2048 S4x4x2048)

/-- The place of the argument that place `i` of the result is read from: the same batch, sequence position and
    feature, and zero on the unit axis. -/
def srcIdx (i : S4x4x2048.Idx) : S4x8192x1x2048.Idx
  | 0 => ⟨(i 0).val, (i 0).isLt⟩
  | 1 => ⟨(i 1).val, lt_of_lt_of_le (i 1).isLt (by decide)⟩
  | 2 => ⟨0, by decide⟩
  | 3 => ⟨(i 2).val, (i 2).isLt⟩

/-- The first four sequence positions of every batch of `x`. -/
def headOf {α : Type} (x : S4x8192x1x2048.Idx → α) : S4x4x2048.Idx → α := fun i => x (srcIdx i)

end Cert.Proof

end
-- ==== Proof.Body.lean ====
/-
  One sequencer's run of the kernel, at a symbolic SparseCore `c`: batches `2c` and `2c + 1` of the argument's first
  four sequence positions travel into the SparseCore's shared scratch, and from there into the same batches of the
  result. Both copies are issued and at once waited for, each on a semaphore of its own.
-/
module

public import proofs.«01_k».proof.Proof.Head
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.Seq

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's pieces, and the resource algebra -/

/-- The labels below the SparseCore launches. -/
abbrev ΛP : Labels := Pipeline.Sig Λ₀ (Fin 0) fun p => (pcfgs (F := F) p).Adm
/-- The program's one SparseCore call. -/
abbrev K : SparseCore.Cfg τ sig (ΛP (F := F)) 1 := sc (F := F)
/-- The body table below the launches. -/
abbrev D [FloatOps F] : Defs nD τ sig (Elt F) (ΛP (F := F)) := Pipeline.defs pcfgs defs₀
/-- No loop takes a variant. -/
abbrev 𝒱₀ : Variants := Variants.none
abbrev 𝒱 : Variants := 𝒱₀.lift
abbrev v₀ : 𝒱.V := Sum.inl none

/-- The launch handshakes' rounds beside the copies' counters. -/
abbrev UH : Type := URounds (GSem nD τ sig) ℕ
abbrev UU : Type := UH × Counters

local notation "𝕄" => MT nD τ sig (HIx 1) (Elt F) ℕ UU ℕ

/-- The handshakes' rounds are the left factor. -/
abbrev EH : Emb UH (MT nD τ sig (HIx 1) (Elt F) ℕ UU ℕ) := embL

local notation "xW" => (Memref.whole Cert.KernelIdeal.main_arg0_scs : Memref Cert.KernelIdeal.sig Kind.scScalar Space.hbm Cert.KernelIdeal.S4x8192x1x2048 EltTy.f32)
local notation "oW" => (Memref.whole Cert.KernelIdeal.main_v0_scs : Memref Cert.KernelIdeal.sig Kind.scScalar Space.hbm Cert.KernelIdeal.S4x4x2048 EltTy.f32)
local notation "shW" => (Memref.whole Cert.KernelIdeal.cc0_scratch0 : Memref Cert.KernelIdeal.sig Kind.scScalar Space.shared Cert.KernelIdeal.S2x4x2048 EltTy.f32)

/-- The argument's and the result's arrays in HBM, and SparseCore `c`'s shared scratch. -/
abbrev xLoc (d : Dev nD) : Loc nD τ sig := (SparseCore.T d).loc main_arg0
abbrev oLoc (d : Dev nD) : Loc nD τ sig := (SparseCore.T d).loc main_v0
abbrev shLoc (d : Dev nD) (c : Fin τ.nSC) : Loc nD τ sig := (S d c).loc cc0_scratch0

/-! ## What one SparseCore is dealt -/

/-- SparseCore `n`'s share of the argument, which both read: the left half for SparseCore 0, the right for SparseCore 1. -/
def half (n : ℕ) : PosShare TreeShare := if n = 0 then (fullShare).left else (fullShare).right

/-- SparseCore `n`'s places of the result: batches `2n` and `2n + 1`. -/
def outRows (n : ℕ) : Finset S4x4x2048.Idx := Finset.univ.filter fun i => (i 0).val / 2 = n

variable [FloatOps F]

/-- The grid point of SparseCore `c`. -/
def coordsS (c : Fin (grid0.bound 0)) : grid0.Coords := fun | 0 => c | ⟨_ + 1, h⟩ => absurd h (Nat.not_lt.2 (Nat.le_add_left _ _))

/-- SparseCore `c`'s sequencer. -/
abbrev SC (d : Dev nD) (c : Fin (grid0.bound 0)) : Thread nD τ := S d (c.castLE hcore0)

/-- The part of the argument that SparseCore `c` reads, as the kernel slices it. -/
abbrev srcM (c : Fin (grid0.bound 0)) : Memref sig .scScalar .hbm S2x4x2048 .f32 :=
  ((xW).slice (Rect.unit (s := S4x8192x1x2048) (k0_off1 (coordsS c)) S2x4x1x2048.size (k0_off1_inb (coordsS c))) (fun _ => rfl)).squeeze S2x4x2048 squeezes_S2x4x1x2048_S2x4x2048
/-- The part of the result that SparseCore `c` writes, as the kernel slices it. -/
abbrev dstM (c : Fin (grid0.bound 0)) : Memref sig .scScalar .hbm S2x4x2048 .f32 :=
  (oW).slice (Rect.unit (s := S4x4x2048) (k0_off2 (coordsS c)) S2x4x2048.size (k0_off2_inb (coordsS c))) (fun _ => rfl)

/-! ## Where the two slices lie -/

section Places
omit [FloatOps F]

/-- The result's slice of SparseCore `c` is batches `2c` and `2c + 1`, whole. -/
theorem dstM_set (c : Fin (grid0.bound 0)) : (dstM c).view.set = outRows c.val := by
  rw [show (dstM c).view.set = (Rect.unit (s := S4x4x2048) (k0_off2 (coordsS c)) S2x4x2048.size (k0_off2_inb (coordsS c))).set from View.set_slice_whole _ _]
  ext i
  simp only [Rect.mem_set_unit, k0_off2_eq, outRows, Finset.mem_filter, Finset.mem_univ, true_and]
  have h1 := (i 1).isLt
  have h2 := (i 2).isLt
  constructor
  · intro h
    have h0 := h 0
    simp [coordsS] at h0
    omega
  · intro h a
    match a with
    | 0 => simp [coordsS]; omega
    | 1 => simpa using h1
    | 2 => simpa using h2

/-- Place `y` of the two slices: the argument's is the one that the result's is read from. -/
theorem srcM_emb (c : Fin (grid0.bound 0)) (y : S2x4x2048.Idx) :
    ((srcM c).view.emb y : S4x8192x1x2048.Idx) = srcIdx ((dstM c).view.emb y) := by
  -- the slice's place before its unit axis is dropped
  let z : S2x4x1x2048.Idx := fun
    | 0 => ⟨(y 0).val, (y 0).isLt⟩
    | 1 => ⟨(y 1).val, (y 1).isLt⟩
    | 2 => ⟨0, by decide⟩
    | 3 => ⟨(y 2).val, (y 2).isLt⟩
  have hz : Shape.reshapeEquiv squeezes_S2x4x1x2048_S2x4x2048.numel_eq y = z :=
    Shape.reshapeEquiv_eq_of_rowMajor _ (by
      rw [Shape.rowMajor_val_four, Shape.rowMajor_val_three]
      show (((y 0).val * 4 + (y 1).val) * 1 + 0) * 2048 + (y 2).val = ((y 0).val * 4 + (y 1).val) * 2048 + (y 2).val
      omega)
  show (Rect.unit (s := S4x8192x1x2048) (k0_off1 (coordsS c)) S2x4x1x2048.size (k0_off1_inb (coordsS c))).emb (Shape.reshapeEquiv squeezes_S2x4x1x2048_S2x4x2048.numel_eq y) = _
  rw [hz]
  funext a
  apply Fin.ext
  rw [Rect.emb_apply]
  show k0_off1 (coordsS c) a + 1 * (z a).val = _
  rw [k0_off1_eq]
  match a with
  | 0 => show 2 * c.val + 1 * (y 0).val = k0_off2 (coordsS c) 0 + 1 * (y 0).val; rw [k0_off2_eq]; rfl
  | 1 => show 0 + 1 * (y 1).val = k0_off2 (coordsS c) 1 + 1 * (y 1).val; rw [k0_off2_eq]; rfl
  | 2 => rfl
  | 3 => show 0 + 1 * (y 2).val = k0_off2 (coordsS c) 2 + 1 * (y 2).val; rw [k0_off2_eq]; rfl

/-- Contents of the result's array that read, through SparseCore `c`'s slice of it, what the argument reads through its
    slice are the first four positions of the argument, on the slice. -/
theorem landed (c : Fin (grid0.bound 0)) (x : S4x8192x1x2048.Idx → Elt F .f32) (g : S4x4x2048.Idx → Elt F .f32)
    (h : ∀ y, (dstM c).view.read (Elt F) g y = (srcM c).view.read (Elt F) x y) :
    ∀ i ∈ (dstM c).view.set, g i = headOf x i := by
  intro i hi
  obtain ⟨y, -, rfl⟩ := Finset.mem_map.mp hi
  have hy := h y
  rw [View.read_apply, View.read_apply] at hy
  exact hy.trans (congrArg x (srcM_emb c y))

/-- A slice of the result's array that a copy of contents `g` has written whole reads `g`. -/
theorem wrote (c : Fin (grid0.bound 0)) (x : S4x8192x1x2048.Idx → Elt F .f32) (fo : S4x4x2048.Idx → Elt F .f32)
    (g : S2x4x2048.Idx → Elt F .f32) (h : ∀ y, g y = (srcM c).view.read (Elt F) x y) (y : S2x4x2048.Idx) :
    (dstM c).view.read (Elt F) ((dstM c).view.writes (Elt F) fo [⟨Rect.whole S2x4x2048, g⟩]) y = (srcM c).view.read (Elt F) x y := by
  refine Eq.trans ?_ (h y)
  have h' := View.read_writes_cons_emb (Val := Elt F) (dstM c).view fo (Rect.whole S2x4x2048) g [] y
  rwa [Rect.emb_whole_apply] at h'

end Places

/-! ## The run -/

/-- The body on SparseCore `c`'s sequencer: from a share of the argument at `x`, the sequencer's slice of the result, the
    scratch and the two semaphores at zero, to the same with the slice at the first four positions of `x`. -/
theorem seq_run (d : Dev nD) (c : Fin (grid0.bound 0)) (q : PosShare TreeShare) (O : CellTallies nD τ sig (HIx 1)) (W : Waits sig (HIx 1))
    (x : Buf (Elt F) ((xW).view.loc (SC d c))) (fo : Buf (Elt F) ((oW).view.loc (SC d c))) (fs : Buf (Elt F) ((shW).view.loc (SC d c))) :
    (iprop(Transfers.MayWaits (SC d c) (none : HIx 1) O
        ∗ ((xW).view.loc (SC d c) ↦{q} x)
        ∗ ((dstM c).view.loc (SC d c) ↦[(dstM c).view.set]{fullShare} fo)
        ∗ ((shW).view.loc (SC d c) ↦{fullShare} fs)
        ∗ semVal (SC d c, SemLoc.dma cc0_scoped0.sem) 0
        ∗ semVal (SC d c, SemLoc.dma cc0_scoped1.sem) 0
        ∗ owes (SC d c) O W) : sProp 𝕄)
      ⊢ wp frame (wpE (defs₀ (F := F)) 𝒱₀ (SC d c) none) Set.univ
          (cc0__gather_head (coordsS c) xW (Memref.isWhole_whole _) oW (Memref.isWhole_whole _)
            shW (Memref.isWhole_whole _) cc0_scratch1 cc0_scoped0 cc0_scoped1)
          fun _ => iprop(((xW).view.loc (SC d c) ↦{q} x)
            ∗ ((dstM c).view.loc (SC d c) ↦[(dstM c).view.set]{fullShare} (headOf (α := Elt F .f32) x : S4x4x2048.Idx → Elt F .f32))
            ∗ (∃ f, (shW).view.loc (SC d c) ↦{fullShare} f)
            ∗ semVal (SC d c, SemLoc.dma cc0_scoped0.sem) 0
            ∗ semVal (SC d c, SemLoc.dma cc0_scoped1.sem) 0
            ∗ ∃ W', owes (SC d c) O W') := by
  iintro ⟨#Hmw, Hx, Ho, Hsh, Hs0, Hs1, HO⟩
  sl_unfold [cc0__gather_head]
  sl_exec
  sl_step
  isplitl [Hx]; · iexact Hx
  isplitl [Ho]
  · have hv : ∀ y, seq_run.sl.dma0_1 d c x fs y = (srcM c).view.read (Elt F) x y := fun y =>
      congrFun (View.read_write_univ (Val := Elt F) (v := (shW).view) fs ((srcM c).view.read (Elt F) x)) y
    iapply (Entails.of_eq (pointsTo_congr (landed c x _ (wrote c x fo _ hv))))
    iexact Ho
  isplitl [Hsh]; · iexists _; iexact Hsh
  isplitl [Hs0]; · iexact Hs0
  isplitl [Hs1]; · iexact Hs1
  iexists _; iexact HO

end Cert.Proof.Seq

end
-- ==== Proof.Obligation.lean ====
/-
  The sequencer's run in the form a SparseCore call asks of its kernel: from what the call hands SparseCore `c`, and the
  sequencer's own scratch and semaphores, to what SparseCore `c` hands back. Each SparseCore is handed half the argument's
  share and its own batches of the result, and hands the batches back at the first four positions of the argument.
-/
module

public import proofs.«01_k».proof.Proof.Body

@[expose] public section

noncomputable section

namespace Cert.Proof.Seq

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scs : Memref Cert.KernelIdeal.sig Kind.scScalar Space.hbm Cert.KernelIdeal.S4x8192x1x2048 EltTy.f32)
local notation "oW" => (Memref.whole Cert.KernelIdeal.main_v0_scs : Memref Cert.KernelIdeal.sig Kind.scScalar Space.hbm Cert.KernelIdeal.S4x4x2048 EltTy.f32)
local notation "shW" => (Memref.whole Cert.KernelIdeal.cc0_scratch0 : Memref Cert.KernelIdeal.sig Kind.scScalar Space.shared Cert.KernelIdeal.S2x4x2048 EltTy.f32)

variable (m : (ℓ : Loc nD τ sig) → Buf (Elt F) ℓ)

/-- The result that the launch memory asks for on device `d`. -/
abbrev want (d : Dev nD) : Buf (Elt F) (oLoc d) := headOf (α := Elt F .f32) (m (xLoc d))

/-! ## What the call hands over -/

/-- SparseCore `n`'s half share of the argument, at its launch contents; and its batches of the result, at `f`. -/
abbrev xHalf (d : Dev nD) (n : ℕ) : sProp 𝕄 := xLoc d ↦{half n} m (xLoc d)
abbrev oRows (d : Dev nD) (n : ℕ) (f : Buf (Elt F) (oLoc d)) : sProp 𝕄 := oLoc d ↦[(outRows n : Finset (Idx (oLoc d)))]{fullShare} f

/-- What SparseCore `n` is handed: its half share and its batches, whatever they hold. -/
abbrev handed (d : Dev nD) (n : ℕ) : sProp 𝕄 := iprop(xHalf m d n ∗ oRows d n (m (oLoc d)))
/-- What it hands back: its half share, and its batches at the result asked for. -/
abbrev back (d : Dev nD) (n : ℕ) : sProp 𝕄 := iprop(xHalf m d n ∗ oRows d n (want m d))

/-! ## The sequencer's own cells and buffers -/

/-- The two semaphores that the kernel's copies pay, as cells of sequencer `c`. -/
abbrev inCell (d : Dev nD) (c : Fin τ.nSC) : GSem nD τ sig := (S d c, .dma cc0_scoped0.sem)
abbrev outCell (d : Dev nD) (c : Fin τ.nSC) : GSem nD τ sig := (S d c, .dma cc0_scoped1.sem)

/-- The sequencer's cells at zero are the two that the copies pay, and the rest. -/
theorem ownSems0_S (d : Dev nD) (c : Fin τ.nSC) :
    (ownSems0 (S d c) : sProp 𝕄)
      = iprop(semVal (inCell d c) 0 ∗ semVal (outCell d c) 0
          ∗ bigSep (((ownCells (S d c)).erase (inCell d c)).erase (outCell d c)) fun g => semVal g 0) := by
  have hne : outCell d c ≠ inCell d c := fun h =>
    absurd (congrArg (fun g : GSem nD τ sig => g.2) h) (show (SemLoc.dma cc0_scoped1.sem : SemLoc sig) ≠ SemLoc.dma cc0_scoped0.sem by decide)
  have hin : inCell d c ∈ ownCells (S d c) :=
    mem_ownCells.mpr ⟨rfl, show (SemLoc.dma cc0_scoped0.sem : SemLoc sig).isScoped .scScalar = true by decide⟩
  have hout : outCell d c ∈ ownCells (S d c) :=
    mem_ownCells.mpr ⟨rfl, show (SemLoc.dma cc0_scoped1.sem : SemLoc sig).isScoped .scScalar = true by decide⟩
  unfold SparseCore.Cfg.ownSems0
  rw [SparseCore.bigSep_erase' hin, SparseCore.bigSep_erase' (Finset.mem_erase.mpr ⟨hne, hout⟩)]

/-- The sequencer's buffers are the shared scratch, at some contents, and the rest. -/
theorem ownBufs_S (d : Dev nD) (c : Fin τ.nSC) :
    (ownBufs (S d c) : sProp 𝕄)
      = iprop((∃ f, shLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-! ## The arrays as the sequencer addresses them -/

/-- The argument whole, as the sequencer's memref names it, is the argument's array. -/
theorem pts_x (d : Dev nD) (c : Fin τ.nSC) (q : PosShare TreeShare) (f : Buf (Elt F) (xLoc d)) :
    ((xW).view.loc (S d c) ↦{q} f : sProp 𝕄) = xLoc d ↦{q} f := by
  simp only [Memref.view_whole, View.set_whole]
/-- The scratch whole likewise. -/
theorem pts_sh (d : Dev nD) (c : Fin τ.nSC) (f : Buf (Elt F) (shLoc d c)) :
    ((shW).view.loc (S d c) ↦{fullShare} f : sProp 𝕄) = shLoc d c ↦{fullShare} f := by
  simp only [Memref.view_whole, View.set_whole]
/-- The slice of the result that the kernel writes on SparseCore `c` is its batches. -/
theorem pts_o (d : Dev nD) (c : Fin (grid0.bound 0)) (f : Buf (Elt F) (oLoc d)) :
    ((dstM c).view.loc (SC d c) ↦[(dstM c).view.set]{fullShare} f : sProp 𝕄) = oRows d c.val f := by
  rw [dstM_set]

/-! ## The body's obligation -/

variable [FloatOps F]

/-- The kernel's body on SparseCore `c`'s sequencer, from what the call hands it to what it hands back. -/
theorem body (hF : (K (F := F)).Facts) (d : Dev nD) (c : Fin (grid0.bound 0)) (O : CellTallies nD τ sig (HIx 1)) (W : Waits sig (HIx 1)) (hO : ∀ g, O g none = 0) :
    iprop(levAts (K (F := F)).L (K (F := F)).lev ∗ emp ∗ handed m d c.val
        ∗ scopedBufs (SC d c) ∗ scopedSems0 (SC d c) ∗ owes (SC d c) O W)
      ⊢ wp frame (wpE (defs₀ (F := F)) 𝒱₀ (SC d c) none) Set.univ
          (cc0__gather_head (coordsS c) xW (Memref.isWhole_whole _) oW (Memref.isWhole_whole _)
            shW (Memref.isWhole_whole _) cc0_scratch1 cc0_scoped0 cc0_scoped1)
          fun _ => iprop(back m d c.val ∗ scopedBufs (SC d c) ∗ scopedSems0 (SC d c)
            ∗ ∃ W', ⌜∀ p ∈ W', p ∈ W ∨ p.2 = none ∨ p.2 = some (0 : Fin 1)⌝ ∗ owes (SC d c) O W') := by
  rw [(K (F := F)).scopedBufs_S hF d _, SparseCore.Cfg.scopedSems0_S (Val := Elt F) d _, ownSems0_S, ownBufs_S]
  iintro ⟨#Hlv, -, ⟨Hx, Ho⟩, ⟨⟨⟨%fs, Hsh⟩, Hbufs⟩, Htiles⟩, ⟨⟨Hin, Hout, Hsems⟩, HtileSems⟩, HO⟩
  ihave Hmw := ((K (F := F)).mayWaits_none (thr := SC d c) hO) $$ Hlv
  ihave Hx' := (Entails.of_eq (pts_x (F := F) d _ _ _).symm) $$ Hx
  ihave Ho' := (Entails.of_eq (pts_o (F := F) d c _).symm) $$ Ho
  ihave Hsh' := (Entails.of_eq (pts_sh (F := F) d _ _).symm) $$ Hsh
  iapply (wp_wand_r Idealize.ShloMosaic.frame (wpE (defs₀ (F := F)) 𝒱₀ (SC d c) none) Set.univ)
  isplitl [Hx' Ho' Hsh' Hin Hout HO]
  · iapply (seq_run d c (half c.val) O W (m (xLoc d)) (m (oLoc d)) fs)
    isplitr; · iexact Hmw
    isplitl [Hx']; · iexact Hx'
    isplitl [Ho']; · iexact Ho'
    isplitl [Hsh']; · iexact Hsh'
    isplitl [Hin]; · iexact Hin
    isplitl [Hout]; · iexact Hout
    iexact HO
  iintro %_ ⟨Hx', Ho', ⟨%f2, Hsh'⟩, Hin, Hout, %W', HO⟩
  isplitl [Hx' Ho']
  · isplitl [Hx']; · iapply (Entails.of_eq (pts_x (F := F) d _ _ _)); iexact Hx'
    iapply (Entails.of_eq (pts_o (F := F) d c _)); iexact Ho'
  isplitl [Hsh' Hbufs Htiles]
  · isplitl [Hsh' Hbufs]
    · isplitl [Hsh']; · iexists _; iapply (Entails.of_eq (pts_sh (F := F) d _ _)); iexact Hsh'
      iexact Hbufs
    iexact Htiles
  isplitl [Hin Hout Hsems HtileSems]
  · isplitl [Hin Hout Hsems]
    · isplitl [Hin]; · iexact Hin
      isplitl [Hout]; · iexact Hout
      iexact Hsems
    iexact HtileSems
  iexists W'; isplitr
  · -- every index is one of the two that the launch allows
    ipureintro; intro p _
    rcases p.2 with _ | q
    · exact .inr (.inl rfl)
    · exact .inr (.inr (congrArg some (Subsingleton.elim q 0)))
  · iexact HO

end Cert.Proof.Seq

end
-- ==== Proof.Run.lean ====
/-
  The whole program's run, for any float values: @main calls the kernel on both SparseCores and is done. The call takes the
  argument and the result's array whole, deals each SparseCore half the argument's share and its own batches of the result,
  and gets both back, the result at the first four sequence positions of the argument.
-/
module

public import proofs.«01_k».proof.Proof.Obligation

@[expose] public section

noncomputable section

namespace Cert.Proof.Seq

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scs : Memref Cert.KernelIdeal.sig Kind.scScalar Space.hbm Cert.KernelIdeal.S4x8192x1x2048 EltTy.f32)
local notation "oW" => (Memref.whole Cert.KernelIdeal.main_v0_scs : Memref Cert.KernelIdeal.sig Kind.scScalar Space.hbm Cert.KernelIdeal.S4x4x2048 EltTy.f32)
local notation "shW" => (Memref.whole Cert.KernelIdeal.cc0_scratch0 : Memref Cert.KernelIdeal.sig Kind.scScalar Space.shared Cert.KernelIdeal.S2x4x2048 EltTy.f32)

variable (m : (ℓ : Loc nD τ sig) → Buf (Elt F) ℓ) (ρ : Dev nD → PrngReg)

/-! ## The deal between the two SparseCores -/

/-- The two SparseCores' batches are apart, -/
theorem outRows_disjoint : Disjoint (outRows 0) (outRows 1) :=
  Finset.disjoint_left.mpr fun i h0 h1 => by
    have h0 := (Finset.mem_filter.mp h0).2
    have h1 := (Finset.mem_filter.mp h1).2
    omega
/-- and together the whole result. -/
theorem outRows_union : outRows 0 ∪ outRows 1 = Finset.univ :=
  Finset.eq_univ_iff_forall.mpr fun i => by
    have hi : (i 0).val < 4 := (i 0).isLt
    simp only [outRows, Finset.mem_union, Finset.mem_filter, Finset.mem_univ, true_and]
    omega

/-- The argument whole is the two half shares of it. -/
theorem x_deal (d : Dev nD) : (xLoc d ↦{fullShare} m (xLoc d) : sProp 𝕄) = iprop(xHalf m d 0 ∗ xHalf m d 1) := by
  show _ = iprop((xLoc d ↦{(fullShare).left} m (xLoc d)) ∗ (xLoc d ↦{(fullShare).right} m (xLoc d)))
  exact BI.Entails.antisymm (pointsTo_share (PosShare.mem_left_op_right fullShare)).1 (pointsTo_share (PosShare.mem_left_op_right fullShare)).2

/-- The result's array whole, at `f`, is the two SparseCores' batches of it. -/
theorem o_deal (d : Dev nD) (f : Buf (Elt F) (oLoc d)) : (oLoc d ↦{fullShare} f : sProp 𝕄) = iprop(oRows d 0 f ∗ oRows d 1 f) := by
  have h : (oLoc d ↦[(outRows 0 ∪ outRows 1 : Finset S4x4x2048.Idx)]{fullShare} f : sProp 𝕄) ⊣⊢ iprop(oRows d 0 f ∗ oRows d 1 f) :=
    pointsTo_union outRows_disjoint
  rw [outRows_union] at h
  exact BI.Entails.antisymm h.1 h.2

/-! ## The call's payloads -/

/-- What the call hands each SparseCore and takes back; the kernel has no tiles to hand anything on to. -/
def P : (K (F := F)).Pay (nD := nD) (Val := Elt F) (Name := ℕ) (U := UU) where
  st := fun _ d c => handed m d c.val
  dn := fun _ d c => back m d c.val
  go := fun _ _ _ _ => iprop(emp)
  td := fun _ _ _ _ => iprop(emp)
  x := fun _ _ => iprop(emp)

/-- The launch's invariants may hold these payloads. -/
instance P_storable : (P (F := F) m).IsStorable where
  st _ d c := by unfold P; infer_instance
  dn _ d c := by unfold P; infer_instance
  go _ _ _ _ := by unfold P; infer_instance
  td _ _ _ _ := by unfold P; infer_instance

/-- All that the call takes is the argument and the result's array, whole; -/
theorem st_eq (d : Dev nD) : (bigSep Finset.univ fun c : Fin ((K (F := F)).nCore 0) => (P m).st 0 d c)
    = iprop((xHalf m d 0 ∗ oRows d 0 (m (oLoc d))) ∗ (xHalf m d 1 ∗ oRows d 1 (m (oLoc d)))) := by
  show (bigSep (Finset.univ : Finset (Fin 2)) fun c => handed m d c.val) = _
  rw [show (Finset.univ : Finset (Fin 2)) = {0, 1} by decide, SparseCore.bigSep_insert' (by decide), bigSep_singleton]
  rfl
/-- all that it hands back is both, the result's array at the result asked for. -/
theorem dn_eq (d : Dev nD) : (bigSep Finset.univ fun c : Fin ((K (F := F)).nCore 0) => (P m).dn 0 d c)
    = iprop((xHalf m d 0 ∗ oRows d 0 (want m d)) ∗ (xHalf m d 1 ∗ oRows d 1 (want m d))) := by
  show (bigSep (Finset.univ : Finset (Fin 2)) fun c => back m d c.val) = _
  rw [show (Finset.univ : Finset (Fin 2)) = {0, 1} by decide, SparseCore.bigSep_insert' (by decide), bigSep_singleton]
  rfl

variable [FloatOps F]

/-! ## The launch's facts and obligation -/

/-- The launch's own semaphores are apart and unscoped, and no buffer is shared with tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The body that the program's table gives a sequencer is the kernel's function at that SparseCore. -/
theorem defs₀_scalar (c : Fin τ.nSC) :
    defs₀ (F := F) (.scScalar c) 0 ()
      = SparseCore.onCore hcore0 (fun c => cc0__gather_head (coordsS c) xW (Memref.isWhole_whole _) oW (Memref.isWhole_whole _)
          shW (Memref.isWhole_whole _) cc0_scratch1 cc0_scoped0 cc0_scoped1) ⟨⟩ c := rfl

/-- Each SparseCore's sequencer meets what the call asks of it. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body m facts d c O W hO

/-! ## The launch's ghost state: the handshakes' rounds alone -/

/-- The rounds of the launch handshakes, and no copy counted yet. -/
def u₀ : UU := (initOf (K (F := F)).hsCells (K (F := F)).hsToks, 1)

/-- Nothing for each of a set is nothing. -/
theorem nothing_each {I : Type} (s : Finset I) : (bigSep s fun _ => iprop(emp)) = (iprop(emp) : sProp 𝕄) := bigSep_emp_const s

/-- That state splits into what the launch asks for. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing_each]; iempintro
  rw [show (bigSep Finset.univ fun thr : Thread nD τ => bigSep Finset.univ fun q : Fin 1 => (P m).x q thr) = (iprop(emp) : sProp 𝕄) from
    (bigSep_congr fun _ _ => nothing_each _).trans (nothing_each _)]
  iempintro

/-! ## @main -/

/-- The TensorCore's arrays are the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

/-- What @main leaves: the argument at its launch contents and the result at its first four positions. -/
abbrev FIN (d : Dev nD) : sProp 𝕄 := iprop((xLoc d ↦{fullShare} m (xLoc d)) ∗ (oLoc d ↦{fullShare} want m d))

/-- @main on device `d`: the call, from the argument and the result's array whole to both whole again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, x_deal, o_deal]
  simp only [main, wp_bind, wp_pure]
  iintro ⟨#Hctx, Hst, ⟨Hb, ⟨⟨Hx0, Hx1⟩, Ho0, Ho1⟩, Hts, -⟩, -⟩
  iapply ((K (F := F)).wp_run (D (F := F)) 𝒱 (EH := EH) (P := P m) κ d 0) $$ [Hst Hx0 Hx1 Ho0 Ho1 Hb Hts]
  isplitr; · iexact Hctx
  isplitl [Hst]; · iexact Hst
  isplitl [Hx0 Hx1 Ho0 Ho1]
  · rw [st_eq]
    isplitl [Hx0 Ho0]
    · isplitl [Hx0]; · iexact Hx0
      iexact Ho0
    · isplitl [Hx1]; · iexact Hx1
      iexact Ho1
  iintro ⟨Hst, Hdn⟩
  ihave Hdn' := (Entails.of_eq (dn_eq m d)) $$ Hdn
  icases Hdn' with ⟨⟨Hx0, Ho0⟩, Hx1, Ho1⟩
  imodintro
  isplitl [Hst]; · iexact Hst
  isplitr [Hb Hts]
  · unfold FIN
    rw [x_deal, o_deal]
    isplitl [Hx0 Hx1]
    · isplitl [Hx0]; · iexact Hx0
      iexact Hx1
    · isplitl [Ho0]; · iexact Ho0
      iexact Ho1
  isplitl [Hb] <;> iassumption

/-! ## The final state -/

/-- Device `d`'s memory at the end: the argument as launched, the result at its first four positions. -/
def fq (d : Dev nD) (s' : Phys nD τ sig (Elt F)) : Prop := s'.mem.mem (xLoc d) = m (xLoc d) ∧ s'.mem.mem (oLoc d) = want m d

/-- What @main leaves says that of the memory. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := want m d)) $$ [HSI Ho]
  · isplitl [HSI] <;> iassumption
  icases H with %ho
  ipureintro; exact ⟨funext fun i => hx i (Finset.mem_univ i), funext fun i => ho i (Finset.mem_univ i)⟩

/-- What the run is claimed to end in: on every device the argument as launched and the result at its first four
    positions, and every semaphore counter at zero. -/
def QC : PUnit × MemSt nD τ sig (Elt F) → Prop := fun r =>
  (∀ c : Dev nD, r.2.mem (xLoc c) = m (xLoc c) ∧ r.2.mem (oLoc c) = want m c) ∧ r.2.sem = fun _ => 0

/-- From any memory with zero counters, every weakly fair execution of the program's threads terminates, nothing faulting,
    in such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Seq

end
-- ==== Proof.RefValue.lean ====
/-
  What the reference's operations come to, for any float values: dropping the argument's unit axis, then taking positions
  0, 1, 2, 3 along the sequence axis. The taking is a gather whose four start indices are those constants, masked where an
  index is out of range, which none is; so the result is the first four positions of the argument.
-/
module

public import proofs.«01_k».proof.Proof.Head
public import proofs.«01_k».proof.Proof.Gen.ReferenceIdeal.Run
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The start indices -/

/-- The reference's start indices, as it computes them: the four positions, a negative one counted from the end. -/
abbrev starts : IVec S4x1 32 :=
  broadcastInDim S4x1 ![0] bcast_S4_S4x1_0 (select (cmpi .slt ((fun i => lit0 (S4.rowMajor i))) (broadcastInDim S4 ![] bcast_S_S4 (constantI S_ 32 0#32))) (addi ((fun i => lit0 (S4.rowMajor i))) (broadcastInDim S4 ![] bcast_S_S4 (constantI S_ 32 8192#32))) ((fun i => lit0 (S4.rowMajor i))))

/-- Start index `j` is position `j`. -/
theorem starts_apply (j : S4x1.Idx) : starts j = BitVec.ofNat 32 (j 0).val := by
  revert j; decide +kernel

/-- The mask: whether a start index lies in the sequence axis. -/
abbrev mask : IVec S4 1 :=
  Host.reduce IntOp.andi (andi (cmpi .sge starts (broadcastInDim S4x1 ![] bcast_S_S4x1 (constantI S_ 32 0#32))) (cmpi .sle starts (broadcastInDim S4x1 ![0, 1] bcast_S1x1_S4x1_0_1 (broadcastInDim S1x1 ![1] bcast_S1_S1x1_1 (constantI S1 32 8191#32))))) (constantI S_ 1 1#1) reducesTo_S4x1_S4_d1 h_S_

/-- Every one does. -/
theorem mask_apply (j : S4.Idx) : mask j = 1#1 := by
  revert j; decide +kernel

/-! ## The gather -/

/-- The gather's dimension numbers. -/
abbrev takeD : GatherDims S4x8192x2048 S4x1 S4x4x2048 := gather_S4x8192x2048_S4x1_S4x4x2048_02_1_n_n_1_1_412048

/-- Along the batches and the features the gather copies, -/
theorem copied_axis (i : S4x4x2048.Idx) (a : Fin 3) (h : a ∈ takeD.sKept) (hm : a ∉ takeD.startIndexMap) :
    (takeD.operandIdx i starts a).val = takeD.offCoord i a := by
  show takeD.start i starts a + takeD.batchCoord i a + takeD.offCoord i a = _
  rw [GatherDims.batchCoord_eq_zero _ _ _ List.not_mem_nil]
  unfold GatherDims.start
  rw [dif_neg hm]
  omega

/-- and along the sequence it takes the start index of the result's position, which is that position. -/
theorem taken_axis (i : S4x4x2048.Idx) : (takeD.operandIdx i starts 1).val = (i 1).val := by
  show takeD.start i starts 1 + takeD.batchCoord i 1 + takeD.offCoord i 1 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (1 : Fin 3) ∈ takeD.startIndexMap from List.mem_singleton.mpr rfl), starts_apply]
  have h0 : (takeD.siIdx i ⟨takeD.startIndexMap.idxOf (1 : Fin 3), List.idxOf_lt_length_iff.2 (List.mem_singleton.mpr rfl)⟩ 0).val = (i 1).val := rfl
  have key : ∀ n < 4, min (BitVec.ofNat 32 n).toInt.toNat (8192 - 1) + 0 + 0 = n := by decide
  exact (congrArg (fun n => min (BitVec.ofNat 32 n).toInt.toNat (8192 - 1) + 0 + 0) h0).trans (key _ (i 1).isLt)

/-- The place of the argument, its unit axis dropped, that the gather reads for place `i` of the result. -/
theorem operandIdx_val (i : S4x4x2048.Idx) (a : Fin 3) : (takeD.operandIdx i starts a).val = (i a).val := by
  match a with
  | 0 => exact (copied_axis i 0 (by decide) (by decide)).trans rfl
  | 1 => exact taken_axis i
  | 2 => exact (copied_axis i 2 (by decide) (by decide)).trans rfl

/-- Dropping the unit axis and gathering reads the argument's first four positions. -/
theorem gather_head {α : Type} (x : S4x8192x1x2048.Idx → α) (i : S4x4x2048.Idx) :
    Host.gather takeD (shapeCast _ x shapeCasts_S4x8192x1x2048_S4x8192x2048) starts i = headOf x i := by
  show x (Shape.reshapeEquiv shapeCasts_S4x8192x1x2048_S4x8192x2048 (takeD.operandIdx i starts)) = x (srcIdx i)
  refine congrArg x (Shape.reshapeEquiv_eq_of_rowMajor _ ?_)
  rw [Shape.rowMajor_val_four, Shape.rowMajor_val_three, operandIdx_val i 0, operandIdx_val i 1, operandIdx_val i 2]
  show (((i 0).val * 8192 + (i 1).val) * 1 + 0) * 2048 + (i 2).val = ((i 0).val * 8192 + (i 1).val) * 2048 + (i 2).val
  omega

/-! ## The reference's result -/

/-- The reference's composed term is the first four positions of the argument. -/
theorem result_eq (x : S4x8192x1x2048.Idx → Elt F .f32) :
    select (broadcastInDim S4x4x2048 ![1] bcast_S4_S4x4x2048_1 mask)
        (Host.gather takeD (shapeCast _ x shapeCasts_S4x8192x1x2048_S4x8192x2048) starts)
        (broadcastInDim S4x4x2048 ![] bcast_S_S4x4x2048 (constant (F := F) S_ .f32 0x7FC00000#32))
      = headOf x := by
  funext i
  show Scalar.select (mask _) (Host.gather takeD (shapeCast _ x shapeCasts_S4x8192x1x2048_S4x8192x2048) starts i) _ = _
  rw [mask_apply, gather_head]
  rfl

/-- From any memory with zero counters, every weakly fair execution of the reference terminates with its result at the
    first four positions of its argument, the argument as launched and every semaphore counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = headOf (α := Elt F .f32) (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c).1.trans (result_eq _), (h c).2⟩, sem_eq_zero_of_no_sems (by decide) r.2⟩)
    (Cert.ReferenceIdeal.Value.run m ρ)

end Cert.Proof.Ref

end
-- ==== Proof.lean ====
/-
  The certificate: each claim of Defs.lean, from one run of the kernel (Proof/Run.lean) and one of the reference
  (Proof/RefValue.lean), both stated for any float values. The idealizing pass rewrote nothing, so the kernel and its
  idealization are one program, read at two kinds of float values; so are the reference and its idealization.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Run
public import proofs.«01_k».proof.Proof.RefValue
public import Idealize.ShloMosaic.Adequacy
public import Idealize.ShloMosaic.Init

@[expose] public section

noncomputable section

namespace Cert.Proof

open Idealize.ShloMosaic Idealize.SL.Sem

/-! ## The frames: each program terminates without a fault, its argument unchanged and every semaphore counter at zero -/

/-- The kernel as printed, at the bit patterns of its floats. -/
theorem frame_kernel : Cert.quiescent_Kernel := fun m ρ _ =>
  (θ_run Cert.KernelIdeal.defs _ _).mono (fun _ h => ⟨fun c => (h.1 c).1, h.2⟩) (Seq.run_main (F := Bits) m ρ)

/-- The kernel at exact floats. -/
theorem frame_kernelIdeal : Cert.quiescent_KernelIdeal := fun m ρ _ =>
  (θ_run Cert.KernelIdeal.defs _ _).mono (fun _ h => ⟨fun c => (h.1 c).1, h.2⟩) (Seq.run_main (F := Ideal) m ρ)

/-- The reference at exact floats. -/
theorem frame_referenceIdeal : Cert.quiescent_ReferenceIdeal := fun m ρ _ =>
  (θ_run Cert.ReferenceIdeal.defs _ _).mono (fun _ h => ⟨fun c => (h.1 c).2, h.2⟩) (Ref.run (F := Ideal) m ρ)

/-- The reference at bit patterns. -/
theorem frame_reference : Cert.quiescent_Reference := fun m ρ _ =>
  (θ_run Cert.ReferenceIdeal.defs _ _).mono (fun _ h => ⟨fun c => (h.1 c).2, h.2⟩) (Ref.run (F := Bits) m ρ)

/-! ## The values: the kernel's result and the reference's are both the first four positions of the argument -/

/-- At exact floats, from memories that agree on the argument, kernel and reference end with equal results. -/
theorem algebraic : Cert.algebraic_KernelIdeal_ReferenceIdeal := fun m ρ m' ρ' _ hagree =>
  ⟨fun c => Seq.want m c,
    (θ_run Cert.KernelIdeal.defs _ _).mono (fun _ h c => ⟨(h.1 c).2, (h.1 c).1⟩) (Seq.run_main (F := Ideal) m ρ),
    (θ_run Cert.ReferenceIdeal.defs _ _).mono (fun _ h c => ⟨(h.1 c).1.trans (congrArg (headOf (α := Elt Ideal .f32)) (hagree c)), (h.1 c).2⟩)
      (Ref.run (F := Ideal) m' ρ')⟩

/-- At bit patterns likewise: the results are equal bit for bit. -/
theorem bitexact : Cert.bitexact_Kernel_Reference := fun m ρ m' ρ' _ hagree =>
  ⟨fun c => Seq.want (F := Bits) m c,
    (θ_run Cert.KernelIdeal.defs _ _).mono (fun _ h c => ⟨(h.1 c).2, (h.1 c).1⟩) (Seq.run_main (F := Bits) m ρ),
    (θ_run Cert.ReferenceIdeal.defs _ _).mono (fun _ h c => ⟨(h.1 c).1.trans (congrArg (headOf (α := Elt Bits .f32)) (hagree c)), (h.1 c).2⟩)
      (Ref.run (F := Bits) m' ρ')⟩

/-- All of them. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
